-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x2048 : Shape := ⟨2, ![16384, 2048]⟩
abbrev S64x2048 : Shape := ⟨2, ![64, 2048]⟩
abbrev S2x8192x2048 : Shape := ⟨3, ![2, 8192, 2048]⟩
abbrev S2x8192x64 : Shape := ⟨3, ![2, 8192, 64]⟩
abbrev S1x1024x2048 : Shape := ⟨3, ![1, 1024, 2048]⟩
abbrev S2x1024x64 : Shape := ⟨3, ![2, 1024, 64]⟩
abbrev S1024x2048 : Shape := ⟨2, ![1024, 2048]⟩
abbrev S1024x64 : Shape := ⟨2, ![1024, 64]⟩
abbrev S1x1024x64 : Shape := ⟨3, ![1, 1024, 64]⟩
abbrev S16384x64 : Shape := ⟨2, ![16384, 64]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S2x8192x2048, .f32⟩
  | .hbm, ⟨3, _⟩ => ⟨S2x8192x64, .f32⟩
  | .hbm, ⟨4, _⟩ => ⟨S16384x64, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1024x2048, .f32⟩
  | .local _ .vmem, ⟨3, _⟩ => ⟨S1x1024x2048, .f32⟩
  | .local _ .vmem, ⟨4, _⟩ => ⟨S64x2048, .f32⟩
  | .local _ .vmem, ⟨5, _⟩ => ⟨S2x1024x64, .f32⟩
  | .local _ .vmem, ⟨6, _⟩ => ⟨S2x1024x64, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x2048 : Shape := ⟨2, ![16384, 2048]⟩
abbrev S64x2048 : Shape := ⟨2, ![64, 2048]⟩
abbrev S2048x64 : Shape := ⟨2, ![2048, 64]⟩
abbrev S16384x64 : Shape := ⟨2, ![16384, 64]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S2048x64, .f32⟩
  | .hbm, ⟨3, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Block.lean ====
/-
  What one grid point of the router kernel computes, over the extended reals.

  At a point the body is handed two blocks of 1024 token rows (one from each half of the tokens) and the whole router
  weight, and stores two planes of logits: plane 0 from the first block, plane 1 from the second. Each logit is the
  inner product of a token row and an expert's weight row. The casts to bf16 are the identity over the reals, and the
  matrix unit's accumulator starts at zero.
-/
module

public import proofs.«01_k».proof.Proof.Gen.KernelIdeal.Frame
public import Idealize.ShloMosaic.Lib.Pipeline.Value
public import Idealize.ShloMosaic.Lib.Pointwise

@[expose] public section

set_option maxRecDepth 16384

noncomputable section

namespace Cert.KernelIdeal.Logits

open Cert.KernelIdeal Cert.KernelIdeal.Gen
open Idealize.ShloMosaic

/-- The logit of row `r` of a token block and expert `e`: the inner product of the token row and the weight row. -/
def blockLogit (x : Vec Ideal S1x1024x2048 .f32) (w : Vec Ideal S64x2048 .f32) (r : Fin 1024) (e : Fin 64) : EReal :=
  ∑ k : Fin 2048, x (ix3 0 r k) * w (ix2 e k)

/-- It depends on the row and the expert through their numbers only. -/
theorem blockLogit_congr {x x' : Vec Ideal S1x1024x2048 .f32} {w : Vec Ideal S64x2048 .f32} {r r' : Fin 1024}
    {e e' : Fin 64} (hx : x = x') (hr : r.val = r'.val) (he : e.val = e'.val) :
    blockLogit x w r e = blockLogit x' w r' e' := by
  obtain rfl := hx; obtain rfl := Fin.ext hr; obtain rfl := Fin.ext he; rfl

/-- The plane that the body computes from its first token block. -/
theorem pay2_apply (w : Vec Ideal S64x2048 .f32) (x : Vec Ideal S1x1024x2048 .f32) (u : Fin 1) (r : Fin 1024) (e : Fin 64) :
    k0_pay2 (F := Ideal) w x (ix3 u r e) = blockLogit x w r e := by
  unfold k0_pay2 k0_pay1 blockLogit
  pointwise

/-- The plane that the body computes from its second token block. -/
theorem pay3_apply (w : Vec Ideal S64x2048 .f32) (x : Vec Ideal S1x1024x2048 .f32) (u : Fin 1) (r : Fin 1024) (e : Fin 64) :
    k0_pay3 (F := Ideal) w x (ix3 u r e) = blockLogit x w r e :=
  pay2_apply w x u r e

theorem off2 : (![0, 0] : Fin 2 → Nat) = fun _ => 0 := funext fun a => by fin_cases a <;> rfl
theorem off3 : (![0, 0, 0] : Fin 3 → Nat) = fun _ => 0 := funext fun a => by fin_cases a <;> rfl

/-- What the two stores leave in the output's staging buffer: at plane `s`, row `r`, expert `e`, the logit of row `r`
    of the first block if `s = 0`, else of the second. -/
theorem out_apply (x0 x1 : Vec Ideal S1x1024x2048 .f32) (w : Vec Ideal S64x2048 .f32) (y : S2x1024x64.Idx) :
    out0_3 (F := Ideal) x0 x1 w y = blockLogit (if (y 0 : Nat) = 0 then x0 else x1) w (y 1) (y 2) := by
  unfold out0_3
  rw [View.ld_unit_zero off2, View.ld_unit_zero off3, View.ld_unit_zero off3]
  refine View.canon_apply_of_pieces (Val := Elt Ideal)
    (fun y : S2x1024x64.Idx => blockLogit (if (y 0 : Nat) = 0 then x0 else x1) w (y 1) (y 2)) _ ?_ y (cover0_3 _ _ y)
  intro p hp j
  rcases List.mem_cons.mp hp with rfl | hp
  · have h0 : ((r0_3.emb j 0 : Fin _) : Nat) = 1 + 1 * (j 0).val := rfl
    have h1 : ((r0_3.emb j 1 : Fin _) : Nat) = 0 + 1 * (j 1).val := rfl
    have h2 : ((r0_3.emb j 2 : Fin _) : Nat) = 0 + 1 * (j 2).val := rfl
    exact ((congrArg (k0_pay3 (F := Ideal) w x1) (eq_ix3 j)).trans (pay3_apply w x1 (j 0) (j 1) (j 2))).trans
      (blockLogit_congr (if_neg (by rw [h0]; omega)).symm (by rw [h1]; omega) (by rw [h2]; omega))
  · rcases List.mem_singleton.mp hp with rfl
    have hj : (j 0).val < 1 := (j 0).isLt
    have h0 : ((r0_2.emb j 0 : Fin _) : Nat) = 0 + 1 * (j 0).val := rfl
    have h1 : ((r0_2.emb j 1 : Fin _) : Nat) = 0 + 1 * (j 1).val := rfl
    have h2 : ((r0_2.emb j 2 : Fin _) : Nat) = 0 + 1 * (j 2).val := rfl
    exact ((congrArg (k0_pay2 (F := Ideal) w x0) (eq_ix3 j)).trans (pay2_apply w x0 (j 0) (j 1) (j 2))).trans
      (blockLogit_congr (if_pos (by rw [h0]; omega)).symm (by rw [h1]; omega) (by rw [h2]; omega))

end Cert.KernelIdeal.Logits

end
-- ==== Proof.Array.lean ====
/-
  What the kernel's arrays hold after the run, over the extended reals.

  Point `t` of the grid writes rows `1024 t … 1024 t + 1023` of both planes of the result (2, 8192, 64): the inner
  products of token rows `8192 s + 1024 t + r` with the experts' weight rows. The eight blocks tile the result, so it
  ends as one function of the two arguments, `planes`; the last reshape lays plane 1 below plane 0, `logits`.
-/
module

public import proofs.«01_k».proof.Proof.Block

@[expose] public section

set_option maxRecDepth 16384

noncomputable section

namespace Cert.KernelIdeal.Logits

open Cert.KernelIdeal Cert.KernelIdeal.Gen
open Idealize.ShloMosaic Idealize.ShloMosaic.TcCoe Idealize.SL.Sem
open Idealize.ShloMosaic.Pipeline (Dat)

/-- The logit of token `n` and expert `e`. -/
def logit (x : Vec Ideal S16384x2048 .f32) (w : Vec Ideal S64x2048 .f32) (n : Fin 16384) (e : Fin 64) : EReal :=
  ∑ k : Fin 2048, x (ix2 n k) * w (ix2 e k)

/-- It depends on the token and the expert through their numbers only. -/
theorem logit_congr {x : Vec Ideal S16384x2048 .f32} {w : Vec Ideal S64x2048 .f32} {n n' : Fin 16384} {e e' : Fin 64}
    (hn : n.val = n'.val) (he : e.val = e'.val) : logit x w n e = logit x w n' e' := by
  obtain rfl := Fin.ext hn; obtain rfl := Fin.ext he; rfl

/-- All the logits, one row for each token. -/
def logits (x : Vec Ideal S16384x2048 .f32) (w : Vec Ideal S64x2048 .f32) : Vec Ideal S16384x64 .f32 :=
  fun i => logit x w (i 0) (i 1)

/-- The token that row `r` of half `s` is. -/
def token (s : Fin 2) (r : Fin 8192) : Fin 16384 := ⟨s.val * 8192 + r.val, by omega⟩

/-- The logits as the pallas_call returns them: two planes, one for each half of the tokens. -/
def planes (x : Vec Ideal S16384x2048 .f32) (w : Vec Ideal S64x2048 .f32) : Vec Ideal S2x8192x64 .f32 :=
  fun i => logit x w (token (i 0) (i 1)) (i 2)

/-- The two planes, one below the other, are the logits. -/
theorem shapeCast_planes (x : Vec Ideal S16384x2048 .f32) (w : Vec Ideal S64x2048 .f32)
    (h : S2x8192x64.ShapeCasts S16384x64) : shapeCast S16384x64 (planes x w) h = logits x w := by
  funext i
  idx_vars i
  pointwise
  exact logit_congr (by show (i0 : Nat) / 8192 * 8192 + (i0 : Nat) % 8192 = (i0 : Nat); omega) rfl

variable (m : (ℓ : Loc nD τ sig) → Buf (Elt Ideal) ℓ) (ρ : Dev nD → PrngReg)

/-- The tokens as launched. -/
abbrev tokens (c : Dev nD) : Vec Ideal S16384x2048 .f32 := m ((c : Thread nD τ).loc main_arg0)
/-- The router weight as launched. -/
abbrev weight (c : Dev nD) : Vec Ideal S64x2048 .f32 := m ((c : Thread nD τ).loc main_arg1)

/-- The region finds the tokens split into their two halves. -/
theorem V_halves (c : Dev nD) :
    V m c main_v0 = shapeCast S2x8192x2048 (tokens m c) shapeCasts_S16384x2048_S2x8192x2048 := by
  show StableHlo.after [StableHlo.reshape main_arg0 main_v0 rfl shapeCasts_S16384x2048_S2x8192x2048]
    (fun b => m (c, b)) (Proc.devRef .tc main_v0) = _
  rw [StableHlo.after_cons, StableHlo.after_nil, StableHlo.reshape_result']
  rfl

/-- The split read at half `s`, row `r`. -/
theorem halves_apply (x : Vec Ideal S16384x2048 .f32) (h : S16384x2048.ShapeCasts S2x8192x2048)
    (s : Fin 2) (r : Fin 8192) (k : Fin 2048) : shapeCast S2x8192x2048 x h (ix3 s r k) = x (ix2 (token s r) k) := by
  pointwise
  rfl

/-- Where the four windows' blocks begin at each point. -/
theorem origins : ∀ t : Fin grid0.N,
    (win0_0.index t 0 = 0 ∧ win0_0.index t 1 = t.val ∧ win0_0.index t 2 = 0)
    ∧ (win0_1.index t 0 = 1 ∧ win0_1.index t 1 = t.val ∧ win0_1.index t 2 = 0)
    ∧ (win0_2.index t 0 = 0 ∧ win0_2.index t 1 = 0)
    ∧ (win0_3.index t 0 = 0 ∧ win0_3.index t 1 = t.val ∧ win0_3.index t 2 = 0) := by decide +kernel

theorem point_lt (t : Fin cfg0.N) : t.val < 8 := lt_of_lt_of_eq t.isLt N_0

/-- Row `r` of point `t`'s block in a half. -/
def rowAt (t : Fin cfg0.N) (r : Fin 1024) : Fin 8192 := ⟨t.val * 1024 + r.val, by have := point_lt t; omega⟩

/-- The first window's block: rows of the first half. -/
theorem iblk0_apply (c : Dev nD) (t : Fin cfg0.N) (r : Fin 1024) (k : Fin 2048) :
    (iblk m c 0 t : Vec Ideal S1x1024x2048 .f32) (ix3 0 r k) = tokens m c (ix2 (token 0 (rowAt t r)) k) := by
  have e := (origins t).1
  unfold iblk
  show V m c main_v0 _ = _
  rw [V_halves, ← halves_apply (tokens m c) shapeCasts_S16384x2048_S2x8192x2048]
  congr 1
  funext a; apply Fin.ext
  match a with
  | ⟨0, _⟩ => show win0_0.index t 0 * 1 + 1 * 0 = 0; rw [e.1]
  | ⟨1, _⟩ => show win0_0.index t 1 * 1024 + 1 * r.val = t.val * 1024 + r.val; rw [e.2.1]; omega
  | ⟨2, _⟩ => show win0_0.index t 2 * 2048 + 1 * k.val = k.val; rw [e.2.2]; omega

/-- The second window's block: rows of the second half. -/
theorem iblk1_apply (c : Dev nD) (t : Fin cfg0.N) (r : Fin 1024) (k : Fin 2048) :
    (iblk m c 1 t : Vec Ideal S1x1024x2048 .f32) (ix3 0 r k) = tokens m c (ix2 (token 1 (rowAt t r)) k) := by
  have e := (origins t).2.1
  unfold iblk
  show V m c main_v0 _ = _
  rw [V_halves, ← halves_apply (tokens m c) shapeCasts_S16384x2048_S2x8192x2048]
  congr 1
  funext a; apply Fin.ext
  match a with
  | ⟨0, _⟩ => show win0_1.index t 0 * 1 + 1 * 0 = 1; rw [e.1]
  | ⟨1, _⟩ => show win0_1.index t 1 * 1024 + 1 * r.val = t.val * 1024 + r.val; rw [e.2.1]; omega
  | ⟨2, _⟩ => show win0_1.index t 2 * 2048 + 1 * k.val = k.val; rw [e.2.2]; omega

/-- The third window's block: the whole weight, at every point. -/
theorem iblk2_apply (c : Dev nD) (t : Fin cfg0.N) (e : Fin 64) (k : Fin 2048) :
    (iblk m c 2 t : Vec Ideal S64x2048 .f32) (ix2 e k) = weight m c (ix2 e k) := by
  have o := (origins t).2.2.1
  unfold iblk
  show V m c main_arg1 _ = _
  rw [V_main_arg1]
  show weight m c _ = _
  congr 1
  funext a; apply Fin.ext
  match a with
  | ⟨0, _⟩ => show win0_2.index t 0 * 64 + 1 * e.val = e.val; rw [o.1]; omega
  | ⟨1, _⟩ => show win0_2.index t 1 * 2048 + 1 * k.val = k.val; rw [o.2]; omega

/-- A point's logits are the logits of its tokens: half `s` by the window that stages that half. -/
theorem blockLogit_eq (c : Dev nD) (t : Fin cfg0.N) (s : Fin 2) (r : Fin 1024) (e : Fin 64) :
    blockLogit (if s.val = 0 then iblk m c 0 t else iblk m c 1 t) (iblk m c 2 t) r e
      = logit (tokens m c) (weight m c) (token s (rowAt t r)) e := by
  unfold blockLogit logit
  refine Finset.sum_congr rfl fun k _ => ?_
  rw [iblk2_apply]
  congr 1
  by_cases hs : s.val = 0
  · rw [if_pos hs, show s = 0 from Fin.ext hs]; exact iblk0_apply m c t r k
  · rw [if_neg hs, show s = 1 from Fin.ext (by have := s.isLt; show s.val = 1; omega)]; exact iblk1_apply m c t r k

/-- What point `t` writes back is block `t` of `planes`. -/
theorem flushed_eq (c : Dev nD) (t : Fin cfg0.N) :
    (dats m 0 c).flushed 3 t = ((cfg0.win 3).blk t).view.read (Elt Ideal) (planes (tokens m c) (weight m c)) := by
  have o := (origins t).2.2.2
  show (cfg0.win 3).cut (grid0.coords t) ((dats m 0 c).after 3 t) = _
  rw [after0_3]
  funext (j : S2x1024x64.Idx)
  show out0_3 (F := Ideal) (iblk m c 0 t) (iblk m c 1 t) (iblk m c 2 t) j = planes (tokens m c) (weight m c) _
  rw [out_apply]
  refine (blockLogit_eq m c t (j 0) (j 1) (j 2)).trans (logit_congr ?_ ?_)
  · show (j 0).val * 8192 + (t.val * 1024 + (j 1).val)
      = (win0_3.index t 0 * 2 + 1 * (j 0).val) * 8192 + (win0_3.index t 1 * 1024 + 1 * (j 1).val)
    rw [o.1, o.2.1]; omega
  · show (j 2).val = win0_3.index t 2 * 64 + 1 * (j 2).val
    rw [o.2.2]; omega

/-- An index of the result is in point `t`'s block iff its row is one of the point's 1024 rows. -/
theorem mem_blk (t : Fin cfg0.N) (i : S2x8192x64.Idx) :
    i ∈ ((cfg0.win 3).blk t).view.set ↔ t.val * 1024 ≤ (i 1 : Nat) ∧ (i 1 : Nat) < t.val * 1024 + 1024 := by
  have o := (origins t).2.2.2
  show i ∈ ((View.whole main_v1).slice (win0_3.rect t)).set ↔ _
  rw [View.set_slice_whole, Rect.mem_set_unit]
  have h0 : (i 0 : Nat) < 2 := (i 0).isLt
  have h2 : (i 2 : Nat) < 64 := (i 2).isLt
  have row : (win0_3.index t 1 * 1024 ≤ (i 1 : Nat) ∧ (i 1 : Nat) < win0_3.index t 1 * 1024 + 1024)
      ↔ t.val * 1024 ≤ (i 1 : Nat) ∧ (i 1 : Nat) < t.val * 1024 + 1024 := by rw [o.2.1]
  refine ⟨fun h => row.mp (h 1), fun h a => ?_⟩
  match a with
  | ⟨0, _⟩ => show win0_3.index t 0 * 2 ≤ (i 0 : Nat) ∧ (i 0 : Nat) < win0_3.index t 0 * 2 + 2
              rw [o.1]; omega
  | ⟨1, _⟩ => exact row.mpr h
  | ⟨2, _⟩ => show win0_3.index t 2 * 64 ≤ (i 2 : Nat) ∧ (i 2 : Nat) < win0_3.index t 2 * 64 + 64
              rw [o.2.2]; omega

/-- The eight points' blocks tile the result. -/
theorem cover (i : S2x8192x64.Idx) :
    ∃ t : Fin cfg0.N, (cfg0.win 3).flush t = true ∧ i ∈ ((cfg0.win 3).blk t).view.set := by
  have h1 : (i 1 : Nat) < 8192 := (i 1).isLt
  refine ⟨⟨(i 1 : Nat) / 1024, by show _ < grid0.N; rw [N_0]; omega⟩, flush0_3 _, ?_⟩
  rw [mem_blk]
  dsimp only
  omega

/-- So the array that the pallas_call returns ends as `planes` of the arguments. -/
theorem final_planes (c : Dev nD) : (dats m 0 c).arrAt 3 cfg0.N = planes (tokens m c) (weight m c) :=
  (dats m 0 c).arrAt_eq_of_cover 3 (planes (tokens m c) (weight m c)) (fun t _ => flushed_eq m c t) cover

/-- The last line's result: the pallas_call's planes, reshaped. -/
theorem tail_logits (c : Dev nD) :
    Pipeline.afterTail₀ cfgs (dats m) 0 (V0 m) [hostOps1] c main_v2 = logits (tokens m c) (weight m c) := by
  have hv := (dats m 0 c).withArrays_arrAt launch₀0.sharedIn (V0 m c) (A_eq m c) 3
  unfold Pipeline.afterTail₀
  show StableHlo.after [StableHlo.reshape main_v1 main_v2 rfl shapeCasts_S2x8192x64_S16384x64]
    (Pipeline.withArrays cfg0.spec c (V0 m c) fun w => (dats m 0 c).arrAt w cfg0.N) (Proc.devRef .tc main_v2) = _
  rw [StableHlo.after_cons, StableHlo.after_nil, StableHlo.reshape_result']
  exact (congrArg (fun x : Vec Ideal S2x8192x64 .f32 => shapeCast S16384x64 x shapeCasts_S2x8192x64_S16384x64)
    (hv.trans (final_planes m c))).trans (shapeCast_planes _ _ _)

/-- The run: the result ends holding the logits, and the arguments as they were. -/
theorem run : θ_run defs (onTc (τ := τ) (main (F := Ideal))) ⟨m, fun _ => 0, ρ⟩ fun r => ∀ c : Dev nD,
      r.2.mem ((c : Thread nD τ).loc main_v2) = logits (tokens m c) (weight m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v2 (Pipeline.mem_restRefs_of main_v2 (by decide) (by decide))).trans (tail_logits m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c)))⟩)
    (run_main m ρ)

end Cert.KernelIdeal.Logits

end
-- ==== Proof.Equation.lean ====
/-
  The reference's product read entry by entry: `hs @ weight.T` at token `n` and expert `e` is the inner product of the
  token's row and the expert's weight row, the logit that the kernel's run ends with.
-/
module

public import proofs.«01_k».proof.Proof.Array
public import proofs.«01_k».proof.Proof.Gen.ReferenceIdeal.Run

@[expose] public section

set_option maxRecDepth 16384

noncomputable section

namespace Cert.ReferenceIdeal.Logits

open Cert.ReferenceIdeal Cert.ReferenceIdeal.Gen
open Idealize.ShloMosaic

/-- The tokens times the transposed weight are the logits. -/
theorem product_eq (x : Vec Ideal S16384x2048 .f32) (w : Vec Ideal S64x2048 .f32) :
    Host.dotGeneral (F := Ideal) (φ₁ := .f32) (φ₂ := .f32) dot_S16384x2048_S2048x64_S16384x64_1_0_0_1_n_n none x
      (transpose S2048x64 [1, 0] w transposes_S64x2048_S2048x64_1_0)
      = Cert.KernelIdeal.Logits.logits x w := by
  funext i
  idx_vars i
  unfold Cert.KernelIdeal.Logits.logits Cert.KernelIdeal.Logits.logit
  pointwise

end Cert.ReferenceIdeal.Logits

end
-- ==== Proof.lean ====
/-
  The certificate of the router kernel: assembly of the five claims.

  The frames of the kernel, at machine words and over the reals, are the generated ones; the reference's is read off its
  run. The idealized kernel is the kernel's own text, so `preserves` asks nothing. The algebraic claim joins
  the kernel's run, whose result is `logits` of the arguments (Proof/Array.lean), with the reference's, whose product
  is the same function (Proof/Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel, at machine words: it terminates without fault, its arguments unchanged and every counter at zero. -/
theorem frame_kernel : Cert.quiescent_Kernel := fun m ρ _ => Cert.Kernel.Gen.frame m ρ

/-- The same over the extended reals. -/
theorem frame_kernelIdeal : Cert.quiescent_KernelIdeal := fun m ρ _ => Cert.KernelIdeal.Gen.frame m ρ

/-- The reference: its run read at the arguments; it declares no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From equal arguments the kernel and the reference end with the same logits, over the extended reals. -/
theorem algebraic : Cert.algebraic_KernelIdeal_ReferenceIdeal := by
  intro m ρ m' ρ' _ hagree
  refine ⟨fun c => Cert.KernelIdeal.Logits.logits (Cert.KernelIdeal.Logits.tokens m c) (Cert.KernelIdeal.Logits.weight m c),
    Cert.KernelIdeal.Logits.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.Logits.product_eq _ _

/-- Everything that the certificate claims. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
